-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048x512 : S_.BroadcastsInDim S2048x512 (![] : Fin 0 → Fin S2048x512.rank)

variable [Facts]

def fn {F : FTy → Type} [FloatOps F] (main_arg0 : FVec F S8192x2048 .f32) (main_arg1 : FVec F S2048x512 .f32) (main_arg2 : FVec F S512 .f32) (main_arg3 : FVec F S512x16 .f32) (main_arg4 : FVec F S16 .f32) (main_arg5 : FVec F S2048x2048 .f32) (main_arg6 : FVec F S2048 .f32) (main_arg7 : IVec S_ 32) : IVec S8192x2048 1 × IVec S2048x512 1 × IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_c : IVec S_ 32 := constantI S_ 32 0#32
  let main_v6 : IVec S_ 1 := cmpi .sge main_arg7 main_c
  let main_c_1 : IVec S_ 32 := constantI S_ 32 16#32
  let main_v7 : IVec S_ 1 := cmpi .slt main_arg7 main_c_1
  let main_v8 : IVec S_ 1 := andi main_v6 main_v7
  (main_v2, main_v5, main_v8)
-- ==== Kernel.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S2048x2048 : Shape := ⟨2, ![2048, 2048]⟩
abbrev S2048 : Shape := ⟨1, ![2048]⟩
abbrev S_ : Shape := ⟨0, ![]⟩
abbrev S1 : Shape := ⟨1, ![1]⟩
abbrev S1x512 : Shape := ⟨2, ![1, 512]⟩
abbrev S1x16 : Shape := ⟨2, ![1, 16]⟩
abbrev S1x2048 : Shape := ⟨2, ![1, 2048]⟩
abbrev S256x2048 : Shape := ⟨2, ![256, 2048]⟩
abbrev S256x16 : Shape := ⟨2, ![256, 16]⟩
abbrev S256 : Shape := ⟨1, ![256]⟩
abbrev S256x1 : Shape := ⟨2, ![256, 1]⟩
abbrev S256x512 : Shape := ⟨2, ![256, 512]⟩
abbrev S1x256x1 : Shape := ⟨3, ![1, 256, 1]⟩
abbrev S1x1x1 : Shape := ⟨3, ![1, 1, 1]⟩

abbrev nBuf : Space → Nat
  | .hbm => 15
  | .vmem => 12
  | .smem => 1
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S2048x2048, .f32⟩
  | .hbm, ⟨6, _⟩ => ⟨S2048, .f32⟩
  | .hbm, ⟨7, _⟩ => ⟨S_, .i32⟩
  | .hbm, ⟨8, _⟩ => ⟨S2048x2048, .bf16⟩
  | .hbm, ⟨9, _⟩ => ⟨S2048x512, .bf16⟩
  | .hbm, ⟨10, _⟩ => ⟨S512x16, .bf16⟩
  | .hbm, ⟨11, _⟩ => ⟨S1x512, .f32⟩
  | .hbm, ⟨12, _⟩ => ⟨S1x16, .f32⟩
  | .hbm, ⟨13, _⟩ => ⟨S1x2048, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x512, .bf16⟩
  | .local _ .vmem, ⟨3, _⟩ => ⟨S1x512, .f32⟩
  | .local _ .vmem, ⟨4, _⟩ => ⟨S512x16, .bf16⟩
  | .local _ .vmem, ⟨5, _⟩ => ⟨S1x16, .f32⟩
  | .local _ .vmem, ⟨6, _⟩ => ⟨S2048x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x512, .f32⟩
  | .local _ .vmem, ⟨11, _⟩ => ⟨S256x16, .f32⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S1x512 : Shape := ⟨2, ![1, 512]⟩
abbrev S8192x16 : Shape := ⟨2, ![8192, 16]⟩
abbrev S1x16 : Shape := ⟨2, ![1, 16]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S2048x2048, .f32⟩
  | .hbm, ⟨6, _⟩ => ⟨S2048, .f32⟩
  | .hbm, ⟨7, _⟩ => ⟨S_, .i32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x16, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .i1⟩
  | .hbm, ⟨37, _⟩ => ⟨S8192x16, .f32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S8192x1, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .i1⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x1, .i1⟩
  | .hbm, ⟨64, _⟩ => ⟨S8192x2048, .i1⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_c_4 : Ref sig .tc := ⟨.hbm, 39, rfl⟩
abbrev main_v23 : Ref sig .tc := ⟨.hbm, 40, rfl⟩
abbrev main_c_5 : Ref sig .tc := ⟨.hbm, 41, rfl⟩
abbrev main_c_6 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_c_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_call2_v0 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Proof.GateIdeal.Body.lean ====
/- One grid point of the gating kernel: what its body leaves in the output block and in the carried column sums. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which a grid point fills the carried column sums. -/
abbrev firstPoint (i : grid0.Coords) : Prop :=
  Scalar.cmpi .ne (Scalar.extui (Scalar.cmpi .eq (BitVec.ofNat 32 (i 0).val) 0#32)) (0#32 : BitVec 32) = 1#1

/-- The table's one word. -/
abbrev word (x : Vec F S1 .i32) : Elt F .i32 := x (Shape.Idx.first (numel1_S1.symm ▸ Nat.one_pos))

/-- The condition under which a grid point recomputes its logits: some row's selected fast logit is near zero. -/
abbrev nearZero (lg : Vec F S256x16 .f32) (w : Elt F .i32) : Prop :=
  Scalar.cmpi .ne (Scalar.extui (Scalar.cmpf .ogt (k0_pay6 lg (k0_pay5 (F := F) w)) (Scalar.ofBits .f32 0x00000000#32))) (0#32 : BitVec 32) = 1#1

/-- The logits a grid point decides by: the fast ones from the column sums `s`, or, where some are near zero, the recomputed ones. -/
def logits (w : Elt F .i32) (x : Vec F S256x2048 .f32) (W1 : Vec F S2048x512 .bf16) (b1 : Vec F S1x512 .f32) (W2 : Vec F S512x16 .bf16)
    (b2 : Vec F S1x16 .f32) (s : Vec F S1x512 .f32) : Vec F S256x16 .f32 :=
  if nearZero (k0_pay4 x s b1 W2 b2) w then k0_pay7 (k0_pay3 x) W1 b1 W2 b2 else k0_pay4 x s b1 W2 b2

/-- The output block of a grid point. -/
def outBlock (w : Elt F .i32) (x : Vec F S256x2048 .f32) (W1 : Vec F S2048x512 .bf16) (b1 : Vec F S1x512 .f32) (W2 : Vec F S512x16 .bf16)
    (b2 : Vec F S1x16 .f32) (Wl : Vec F S2048x2048 .bf16) (bl : Vec F S1x2048 .f32) (s : Vec F S1x512 .f32) : Vec F S256x2048 .f32 :=
  k0_pay1 x (k0_pay8 (logits w x W1 b1 W2 b2 s) w) (k0_pay9 x Wl) (k0_pay10 bl)

/-- The carried column sums after a grid point: filled from the block of first weights at the first point, kept at the others. -/
def carry (i : grid0.Coords) (W1 : Vec F S2048x512 .bf16) (s : Vec F S1x512 .f32) : Vec F S1x512 .f32 :=
  if firstPoint i then k0_pay2 W1 else s

set_option maxHeartbeats 4000000 in
/-- The body at a grid point. From the table's word, the seven input blocks and the carried column sums `xs0`, it leaves the inputs and the
    table as they were, the output block at `outBlock` of them, the column sums at `carry`, and the logits' scratch at something. -/
theorem body_run (c : Dev nD) (i : grid0.Coords) (q : PosShare TreeShare) (arg1 : Memref sig .tc .smem S1 .i32) (harg1 : arg1.IsWhole) (arg2 : Memref sig .tc .vmem S256x2048 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S512x16 .bf16) (harg5 : arg5.IsWhole) (arg6 : Memref sig .tc .vmem S1x16 .f32) (harg6 : arg6.IsWhole) (arg7 : Memref sig .tc .vmem S2048x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S1x512 .f32) (harg10 : arg10.IsWhole) (arg11 : Memref sig .tc .vmem S256x16 .f32) (harg11 : arg11.IsWhole)
    (x0 : Vec F S1 .i32) (x1 : Vec F S256x2048 .f32) (x2 : Vec F S2048x512 .bf16) (x3 : Vec F S1x512 .f32) (x4 : Vec F S512x16 .bf16) (x5 : Vec F S1x16 .f32) (x6 : Vec F S2048x2048 .bf16) (x7 : Vec F S1x2048 .f32) (xs0 : Vec F S1x512 .f32)
    (E : Set ℕ) (K : PUnit → sProp 𝕄) :
        iprop(owns (c : Thread nD τ) arg1 q x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ (∃ d, owns (c : Thread nD τ) arg11 fullShare d)
            ∗ (iprop(owns (c : Thread nD τ) arg1 q x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock (word x0) x1 x2 x3 x4 x5 x6 x7 (carry i x2 xs0)) ∗ owns (c : Thread nD τ) arg10 fullShare (carry i x2 xs0) ∗ (∃ d, owns (c : Thread nD τ) arg11 fullShare d)) -∗ K ⟨⟩))
          ⊢ wp frame (wpE (defs₀ (F := F)) Variants.none c none) E (cc0__gating_block_kernel i arg1 harg1 arg2 harg2 arg3 harg3 arg4 harg4 arg5 harg5 arg6 harg6 arg7 harg7 arg8 harg8 arg9 harg9 arg10 harg10 arg11 harg11) K := by
    simp only [cc0__gating_block_kernel_eq_skeleton]; unfold cc0__gating_block_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    have e0 : View.readAt (Elt F) arg1.view (Rect.unit ![0] S1.size inb_S1_S1_0).toLoadRect f0 = x0 := (View.readAt_full _ _ _).trans hf0
    have e1 : View.readAt (Elt F) arg2.view (Rect.unit ![0, 0] S256x2048.size inb_S256x2048_S256x2048_0_0).toLoadRect f1 = x1 := (View.readAt_full _ _ _).trans hf1
    have e2 : View.readAt (Elt F) arg3.view (Rect.unit ![0, 0] S2048x512.size inb_S2048x512_S2048x512_0_0).toLoadRect f2 = x2 := (View.readAt_full _ _ _).trans hf2
    have e3 : View.readAt (Elt F) arg4.view (Rect.unit ![0, 0] S1x512.size inb_S1x512_S1x512_0_0).toLoadRect f3 = x3 := (View.readAt_full _ _ _).trans hf3
    have e4 : View.readAt (Elt F) arg5.view (Rect.unit ![0, 0] S512x16.size inb_S512x16_S512x16_0_0).toLoadRect f4 = x4 := (View.readAt_full _ _ _).trans hf4
    have e5 : View.readAt (Elt F) arg6.view (Rect.unit ![0, 0] S1x16.size inb_S1x16_S1x16_0_0).toLoadRect f5 = x5 := (View.readAt_full _ _ _).trans hf5
    have e6 : View.readAt (Elt F) arg7.view (Rect.unit ![0, 0] S2048x2048.size inb_S2048x2048_S2048x2048_0_0).toLoadRect f6 = x6 := (View.readAt_full _ _ _).trans hf6
    have e7 : View.readAt (Elt F) arg8.view (Rect.unit ![0, 0] S1x2048.size inb_S1x2048_S1x2048_0_0).toLoadRect f7 = x7 := (View.readAt_full _ _ _).trans hf7
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr
      swap; · iexact H8
      ipureintro
      refine (View.read_writes_full arg9.view f8 inb_S256x2048_S256x2048_0_0 _ []).trans ?_
      delta body_run.sl.r_2 body_run.sl.v55 body_run.sl.v54 body_run.sl.v53 body_run.sl.v52 body_run.sl.r_1 body_run.sl.v31 body_run.sl.HS1_1 body_run.sl.r body_run.sl.cst_24
      have e10 : body_run.sl.v10 c i arg10 x2 fs0 = carry i x2 xs0 := by
        delta body_run.sl.v10 body_run.sl.v2 body_run.sl.v1 body_run.sl.v0
        rw [View.readAt_full]
        unfold carry
        split
        · exact View.read_writes_full arg10.view fs0 inb_S1x512_S1x512_0_0 _ []
        · exact hfs0
      rw [e10, View.readCov_full]
      unfold outBlock logits nearZero
      split
      · rw [View.readAt_writes_full]
      · rw [View.readAt_writes_full]
    isplitl [HS0]
    · iexists _; isplitr
      swap; · iexact HS0
      ipureintro
      delta body_run.sl.v2 body_run.sl.v1 body_run.sl.v0
      unfold carry
      split
      · exact View.read_writes_full arg10.view fs0 inb_S1x512_S1x512_0_0 _ []
      · exact hfs0
    iexists _; iexists _; isplitr
    swap; · iexact HS1
    ipureintro; rfl

end Cert.KernelIdeal.Gate

end
-- ==== Proof.GateIdeal.Frame.lean ====
/- The launch of the gating kernel: what each window's staging buffer holds, point by point, and the run of the whole program. -/
module

public import proofs.«01_k».proof.Proof.GateIdeal.Body
public import Idealize.ShloMosaic.Lib.Claim
public import Idealize.ShloMosaic.Lib.Pipeline.Kit

@[expose] public section

set_option maxRecDepth 16384

noncomputable section

namespace Cert.KernelIdeal.Gate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Device `c`'s buffers when the kernel is launched: the launch memory after the host's casts and reshapes. -/
abbrev V (c : Dev nD) (b : Ref sig .tc) : Buf (Elt F) ((c : Thread nD τ).loc b) := StableHlo.after hostOps0 (fun b => m (c, b)) b

/-- No host operation allocates a buffer. -/
theorem host_fresh : (hostOps0 : List (HloOp τ sig (Elt F))).Forall fun op => op.fresh = ∅ := by
  simp only [List.Forall]; repeat' constructor

/-- A buffer no host operation writes is found as it was launched. -/
theorem V_kept (b : Ref sig .tc) (h : ∀ d ∈ [main_v0, main_v1, main_v2, main_v3, main_v4, main_v5, main_v6], b ≠ d) (c : Dev nD) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    repeat' apply And.intro
    all_goals exact StableHlo.devRef_ne_of_ne (h _ (by simp))))

/-- The table of the layer index as the launch finds it, which is admissible at any contents. -/
def adm : (pcfg0 (F := F)).Adm := ⟨fun k => V m 0 (pre0.ref k), by trivial⟩

/-- The pipeline at that table. -/
abbrev cfgA : Cfg sig Λ₀ := cfg0 (adm m)

/-- The table's contents. -/
abbrev table (c : Dev nD) : Vec F S1 .i32 := V m c main_v0

/-- Window `w`'s block at point `t`, read off its array as the launch finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The first grid point. -/
abbrev t0 : Fin (cfgA m).N := ⟨0, by rw [show (cfgA m).N = 32 from N_0]; decide⟩

/-- The column sums of the first weights, as the first point leaves them. -/
def colSums (c : Dev nD) : Vec F S1x512 .f32 := k0_pay2 (iblk m c 1 (t0 m))

/-- The output block point `t` leaves. -/
def outAt (c : Dev nD) (t : Fin (cfgA m).N) : Vec F S256x2048 .f32 :=
  outBlock (word (table m c)) (iblk m c 0 t) (iblk m c 1 t) (iblk m c 2 t) (iblk m c 3 t) (iblk m c 4 t) (iblk m c 5 t) (iblk m c 6 t) (colSums m c)

/-- The first branch's condition holds at the first point only. -/
theorem firstPoint_iff : ∀ t : Fin grid0.N, firstPoint (grid0.coords t) ↔ t.val = 0 := fun t => by
  have ht : t.val < 32 := Nat.lt_of_lt_of_eq t.isLt N_0
  have e0 : (grid0.coords t 0).val = t.val / 1 % 32 := Pipeline.Grid.coords_val t 0 (by decide) rfl
  have h : firstPoint (grid0.coords t) ↔ t.val % 32 = 0 := by
    simp only [firstPoint, e0]
    word_cmp
  rw [h]; omega

/-! ## The proof data -/

/-- What the body keeps besides the staging buffers: the carried column sums at `s`, the logits' scratch at anything, the generator register. -/
def kept (c : Dev nD) (s : Vec F S1x512 .f32) : sProp 𝕄 :=
  iprop(iprop(owns (c : Thread nD τ) (Memref.whole cc0_scratch0) fullShare s ∗ (∃ d, owns (c : Thread nD τ) (Memref.whole cc0_scratch1) fullShare d)) ∗ (∃ r, prngReg c r))

/-- The body's share of the table. -/
def tablePts (c : Dev nD) : sProp 𝕄 := owns (c : Thread nD τ) (Memref.whole main_v0) fullShare.right (table m c)

/-- The invariant before point `n`: the scratch at anything before the first point, the column sums carried after it; the table throughout. -/
def Inv (c : Dev nD) : ℕ → sProp 𝕄
  | 0 => iprop((∃ s, kept (F := F) c s) ∗ tablePts m c)
  | _ + 1 => iprop(kept c (colSums m c) ∗ tablePts m c)

/-- What is kept, at some column sums, is the scratch buffers at anything and the generator register. -/
theorem kept_iff (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]
  try rfl

/-- The proof data on device `c`: the arrays as found; after point `t` each input's buffer at its block and the output's at `outAt`. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Inv m c t.val
  q _ := fullShare
  owed _ := 0

/-- The proof data's arrays are the contents the launch finds. -/
theorem A_eq (c : Dev nD) (w : Fin (cfgA m).W) : (dats m 0 c).A w = V m c (Pipeline.arrRef spec0 w) := by
  dsimp only [dats]

theorem after_0 (c : Dev nD) (t : Fin (cfgA m).N) : (dats m 0 c).after 0 t = iblk m c 0 t := rfl
theorem after_1 (c : Dev nD) (t : Fin (cfgA m).N) : (dats m 0 c).after 1 t = iblk m c 1 t := rfl
theorem after_2 (c : Dev nD) (t : Fin (cfgA m).N) : (dats m 0 c).after 2 t = iblk m c 2 t := rfl
theorem after_3 (c : Dev nD) (t : Fin (cfgA m).N) : (dats m 0 c).after 3 t = iblk m c 3 t := rfl
theorem after_4 (c : Dev nD) (t : Fin (cfgA m).N) : (dats m 0 c).after 4 t = iblk m c 4 t := rfl
theorem after_5 (c : Dev nD) (t : Fin (cfgA m).N) : (dats m 0 c).after 5 t = iblk m c 5 t := rfl
theorem after_6 (c : Dev nD) (t : Fin (cfgA m).N) : (dats m 0 c).after 6 t = iblk m c 6 t := rfl
theorem after_7 (c : Dev nD) (t : Fin (cfgA m).N) : (dats m 0 c).after 7 t = outAt m c t := rfl

/-- Window 0's staging buffer holds its block at every point. -/
theorem before_0 (c : Dev nD) (t : Fin (cfgA m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Window 1's staging buffer holds its block at every point. -/
theorem before_1 (c : Dev nD) (t : Fin (cfgA m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Window 2's staging buffer holds its block at every point. -/
theorem before_2 (c : Dev nD) (t : Fin (cfgA m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Window 3's staging buffer holds its block at every point. -/
theorem before_3 (c : Dev nD) (t : Fin (cfgA m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Window 4's staging buffer holds its block at every point. -/
theorem before_4 (c : Dev nD) (t : Fin (cfgA m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Window 5's staging buffer holds its block at every point. -/
theorem before_5 (c : Dev nD) (t : Fin (cfgA m).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Window 6's staging buffer holds its block at every point. -/
theorem before_6 (c : Dev nD) (t : Fin (cfgA m).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body at a point -/

abbrev st_0 (t : Fin (cfgA m).N) : Memref sig .tc .vmem S256x2048 .f32 := spec0_0.stage ((cfgA m).slots t 0)
abbrev st_1 (t : Fin (cfgA m).N) : Memref sig .tc .vmem S2048x512 .bf16 := spec0_1.stage ((cfgA m).slots t 1)
abbrev st_2 (t : Fin (cfgA m).N) : Memref sig .tc .vmem S1x512 .f32 := spec0_2.stage ((cfgA m).slots t 2)
abbrev st_3 (t : Fin (cfgA m).N) : Memref sig .tc .vmem S512x16 .bf16 := spec0_3.stage ((cfgA m).slots t 3)
abbrev st_4 (t : Fin (cfgA m).N) : Memref sig .tc .vmem S1x16 .f32 := spec0_4.stage ((cfgA m).slots t 4)
abbrev st_5 (t : Fin (cfgA m).N) : Memref sig .tc .vmem S2048x2048 .bf16 := spec0_5.stage ((cfgA m).slots t 5)
abbrev st_6 (t : Fin (cfgA m).N) : Memref sig .tc .vmem S1x2048 .f32 := spec0_6.stage ((cfgA m).slots t 6)
abbrev st_7 (t : Fin (cfgA m).N) : Memref sig .tc .vmem S256x2048 .f32 := spec0_7.stage ((cfgA m).slots t 7)

/-- The body as the pipeline calls it at point `t`. -/
abbrev bodyAt (t : Fin (cfgA m).N) : Prog (TpuEff nD τ sig (Elt F) Λ₀ .tc) PUnit :=
  cc0__gating_block_kernel (grid0.coords t) (Memref.whole main_v0) (Memref.isWhole_whole _) (st_0 m t) (hstage0_0 (((cfgA m).slots t 0).cast nbuf0_0)) (st_1 m t) (hstage0_1 (((cfgA m).slots t 1).cast nbuf0_1)) (st_2 m t) (hstage0_2 (((cfgA m).slots t 2).cast nbuf0_2)) (st_3 m t) (hstage0_3 (((cfgA m).slots t 3).cast nbuf0_3)) (st_4 m t) (hstage0_4 (((cfgA m).slots t 4).cast nbuf0_4)) (st_5 m t) (hstage0_5 (((cfgA m).slots t 5).cast nbuf0_5)) (st_6 m t) (hstage0_6 (((cfgA m).slots t 6).cast nbuf0_6)) (st_7 m t) (hstage0_7 (((cfgA m).slots t 7).cast nbuf0_7)) (Memref.whole cc0_scratch0) (Memref.isWhole_whole _) (Memref.whole cc0_scratch1) (Memref.isWhole_whole _)

/-- What the body is called with at point `t`. -/
def bodyPre (c : Dev nD) (t : Fin (cfgA m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d))
    ∗ (∃ d, owns (c : Thread nD τ) (st_5 m t) fullShare ((dats m 0 c).before 5 t d))
    ∗ (∃ d, owns (c : Thread nD τ) (st_6 m t) fullShare ((dats m 0 c).before 6 t d))
    ∗ (∃ d, owns (c : Thread nD τ) (st_7 m t) fullShare ((dats m 0 c).before 7 t d)))

/-- What it returns. -/
def bodyPost (c : Dev nD) (t : Fin (cfgA m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t)
    ∗ owns (c : Thread nD τ) (st_5 m t) fullShare ((dats m 0 c).after 5 t)
    ∗ owns (c : Thread nD τ) (st_6 m t) fullShare ((dats m 0 c).after 6 t)
    ∗ owns (c : Thread nD τ) (st_7 m t) fullShare ((dats m 0 c).after 7 t))

/-- The invariant before a point, with the column sums the scratch holds there and what the point makes of them. -/
theorem Inv_open (c : Dev nD) (t : Fin (cfgA m).N) :
    Inv m c t.val ⊢ iprop(∃ s, ⌜carry (grid0.coords t) (iblk m c 1 t) s = colSums m c⌝ ∗ kept c s ∗ tablePts m c) := by
  by_cases hz : t.val = 0
  · rw [hz]
    unfold Inv
    iintro ⟨⟨%s, Hk⟩, Ht⟩
    iexists s
    isplitr
    · ipureintro
      have ht : t = t0 m := Fin.ext hz
      unfold carry colSums
      rw [if_pos ((firstPoint_iff t).mpr hz), ht]
    isplitl [Hk]; · iexact Hk
    iexact Ht
  · obtain ⟨n, hn⟩ := Nat.exists_eq_succ_of_ne_zero hz
    rw [hn]
    unfold Inv
    iintro ⟨Hk, Ht⟩
    iexists (colSums m c)
    isplitr
    · ipureintro
      unfold carry
      rw [if_neg (fun h => hz ((firstPoint_iff t).mp h))]
    isplitl [Hk]; · iexact Hk
    iexact Ht

set_option maxHeartbeats 1600000 in
/-- The body at any point, from what it is called with to what it returns. -/
theorem sound_body (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.castSucc = Inv m c t.val from rfl, show (dats m 0 c).Φ t.succ = iprop(kept c (colSums m c) ∗ tablePts m c) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (Inv_open m c t) $$ HI
  icases HI with ⟨%s, %hs, Hk, Ht⟩
  unfold kept tablePts outAt
  rw [← hs]
  icases Hk with ⟨⟨HS0, HS1⟩, Hg⟩
  iapply (body_run c (grid0.coords t) fullShare.right _ _ _ _ _ _ _ _ _ _ _ _ _ _ _ _ _ _ _ _ _ _ (table m c) (iblk m c 0 t) (iblk m c 1 t) (iblk m c 2 t) (iblk m c 3 t) (iblk m c 4 t) (iblk m c 5 t) (iblk m c 6 t) s Set.univ _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨Ht, H0, H1, H2, H3, H4, H5, H6, H7, HS0, HS1⟩
  isplitl [HS0 HS1 Hg Ht]
  · isplitl [HS0 HS1 Hg]
    · isplitl [HS0 HS1]
      · isplitl [HS0]; · iexact HS0
        iexact HS1
      iexact Hg
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body as `bodyAt` spells it. -/
theorem row_eq (t : Fin (cfgA m).N) :
    defs₀ (F := F) .tc (cfgA m).body ((cfgA m).bodyArgs t ((cfgA m).slots t)) = bodyAt m t := by
  unfold defs₀; rw [Defs.onTc_tc]

/-- The launch's obligation on the body, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

/-- What the launch hands over is the invariant before the first point. -/
theorem inv_first (c : Dev nD) : iprop(Pipeline.ΦA spec0 c ∗ Pipeline.ΦT pre0 (adm m).1 c) ⊢ (dats m 0 c).Φ 0 := by
  rw [show (dats m 0 c).Φ 0 = iprop((∃ s, kept (F := F) c s) ∗ tablePts m c) from rfl, kept_iff]
  unfold kept tablePts Pipeline.ΦT Pipeline.prefHeld
  rw [show (Finset.univ : Finset (Fin 1)) = {0} from by decide, bigSep_singleton, owns_whole]
  obtain rfl : c = 0 := Subsingleton.elim _ _
  iintro ⟨⟨⟨⟨%s, HS0⟩, HS1⟩, Hg⟩, Ht⟩
  isplitl [HS0 HS1 Hg]
  · iexists s
    isplitl [HS0 HS1]
    · isplitl [HS0]; · iexact HS0
      iexact HS1
    iexact Hg
  iexact Ht

/-- The invariant after the last point gives back what the launch handed over. -/
theorem inv_last (c : Dev nD) : (dats m 0 c).Φ (Fin.last (cfgA m).N) ⊢ Pipeline.ΦA spec0 c := by
  rw [show (dats m 0 c).Φ (Fin.last (cfgA m).N) = Inv m c (cfgA m).N from rfl, show (cfgA m).N = 31 + 1 from N_0, kept_iff]
  unfold Inv kept
  iintro ⟨⟨⟨HS0, HS1⟩, Hg⟩, -⟩
  isplitl [HS0 HS1]
  · isplitl [HS0]
    · iexists _; iexact HS0
    iexact HS1
  iexact Hg

set_option backward.isDefEq.respectTransparency.types false in
set_option maxHeartbeats 1600000 in
/-- The program, from any memory with zero counters: it terminates, every array of the launch ends at what the proof data say, every other
    buffer as the launch found it, and every counter at zero. -/
theorem run : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := Pipeline.hmainP_prefix pcfgs 0 defs₀ Variants.none m main hostOps0 hostOps0_sub host_fresh main_chain)
    (hA := A_eq m) (hpf := fun c k => by obtain rfl : c = 0 := Subsingleton.elim _ _; rfl) (hin := inv_first m) (hout := inv_last m)

/-- After a run that ended so, the arguments are as the launch found them. -/
theorem args_kept {r} (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_kept m main_arg0 (by decide) c))),
    ((h c).2 main_arg1 (Pipeline.mem_restRefs_of main_arg1 (by decide) (show ∀ w : Fin 8, (spec0 w).arr.view.ref ≠ main_arg1 from by decide))).trans (V_kept m main_arg1 (by decide) c),
    ((h c).2 main_arg2 (Pipeline.mem_restRefs_of main_arg2 (by decide) (show ∀ w : Fin 8, (spec0 w).arr.view.ref ≠ main_arg2 from by decide))).trans (V_kept m main_arg2 (by decide) c),
    ((h c).2 main_arg3 (Pipeline.mem_restRefs_of main_arg3 (by decide) (show ∀ w : Fin 8, (spec0 w).arr.view.ref ≠ main_arg3 from by decide))).trans (V_kept m main_arg3 (by decide) c),
    ((h c).2 main_arg4 (Pipeline.mem_restRefs_of main_arg4 (by decide) (show ∀ w : Fin 8, (spec0 w).arr.view.ref ≠ main_arg4 from by decide))).trans (V_kept m main_arg4 (by decide) c),
    ((h c).2 main_arg5 (Pipeline.mem_restRefs_of main_arg5 (by decide) (show ∀ w : Fin 8, (spec0 w).arr.view.ref ≠ main_arg5 from by decide))).trans (V_kept m main_arg5 (by decide) c),
    ((h c).2 main_arg6 (Pipeline.mem_restRefs_of main_arg6 (by decide) (show ∀ w : Fin 8, (spec0 w).arr.view.ref ≠ main_arg6 from by decide))).trans (V_kept m main_arg6 (by decide) c),
    ((h c).2 main_arg7 (Pipeline.mem_restRefs_of main_arg7 (by decide) (show ∀ w : Fin 8, (spec0 w).arr.view.ref ≠ main_arg7 from by decide))).trans (V_kept m main_arg7 (by decide) c)⟩

/-- The program leaves its arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_kept m h.1, h.2⟩) (run m ρ)

end Cert.KernelIdeal.Gate

end
-- ==== Proof.Reference.Run.lean ====
/- The reference program as a list of host operations, and what its run leaves: the result as one expression of the arguments. -/
module

public import proofs.«01_k».proof.Proof.Gen.ReferenceIdeal
public import Idealize.ShloMosaic.Lib.StableHlo.Run
public import Idealize.ShloMosaic.Lib.Quiescent

@[expose] public section

set_option maxRecDepth 8192

noncomputable section

namespace Cert.ReferenceIdeal.Gate

open Cert.ReferenceIdeal Cert.ReferenceIdeal.Gen Idealize.ShloMosaic Idealize.ShloMosaic.TcCoe Idealize.SL.Sem Idealize.ShloMosaic.StableHlo

variable {F : FTy → Type} [FloatOps F]

/-! ## The operations, in two stretches -/

/-- The first thirty operations: the gate of every row and layer, as a zero or a one. -/
abbrev gateOps : List (HloOp τ sig (Elt F)) :=
  [ nullary main_cst (constant S_ .f32 0x00000000#32),
    binary main_arg0 main_cst main_v0 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v0 main_v1 (broadcastInDim S8192x1 ![0] bcast_S8192_S8192x1_0 : (⟨S8192, .f32⟩ : BufTy).Contents (Elt F) → (⟨S8192x1, .f32⟩ : BufTy).Contents (Elt F)),
    nullary main_cst_0 (constant S_ .f32 0x45000000#32),
    unary main_cst_0 main_v2 (broadcastInDim S8192x1 ![] bcast_S_S8192x1 : (⟨S_, .f32⟩ : BufTy).Contents (Elt F) → (⟨S8192x1, .f32⟩ : BufTy).Contents (Elt F)),
    binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x2048 ![0, 1] bcast_S8192x1_S8192x2048_0_1 : (⟨S8192x1, .f32⟩ : BufTy).Contents (Elt F) → (⟨S8192x2048, .f32⟩ : BufTy).Contents (Elt F)),
    binary main_v4 main_arg1 main_v5 ((fun l r => Host.dotGeneral dot_S8192x2048_S2048x512_S8192x512_1_0_0_1_n_n none l r) : (⟨S8192x2048, .f32⟩ : BufTy).Contents (Elt F) → (⟨S2048x512, .f32⟩ : BufTy).Contents (Elt F) → (⟨S8192x512, .f32⟩ : BufTy).Contents (Elt F)),
    unary main_arg2 main_v6 (broadcastInDim S1x512 ![1] bcast_S512_S1x512_1 : (⟨S512, .f32⟩ : BufTy).Contents (Elt F) → (⟨S1x512, .f32⟩ : BufTy).Contents (Elt F)),
    unary main_v6 main_v7 (broadcastInDim S8192x512 ![0, 1] bcast_S1x512_S8192x512_0_1 : (⟨S1x512, .f32⟩ : BufTy).Contents (Elt F) → (⟨S8192x512, .f32⟩ : BufTy).Contents (Elt F)),
    binary main_v5 main_v7 main_v8 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x512, .f32⟩) main_call0_v0) (broadcastInDim S8192x512 ![] bcast_S_S8192x512),
    TRef.binary (TRef.of (T := ⟨S8192x512, .f32⟩) main_v8) (TRef.of (T := ⟨S8192x512, .f32⟩) main_call0_v0) (TRef.of (T := ⟨S8192x512, .f32⟩) main_v9) maximumf,
    binary main_v9 main_arg3 main_v10 ((fun l r => Host.dotGeneral dot_S8192x512_S512x16_S8192x16_1_0_0_1_n_n none l r) : (⟨S8192x512, .f32⟩ : BufTy).Contents (Elt F) → (⟨S512x16, .f32⟩ : BufTy).Contents (Elt F) → (⟨S8192x16, .f32⟩ : BufTy).Contents (Elt F)),
    unary main_arg4 main_v11 (broadcastInDim S1x16 ![1] bcast_S16_S1x16_1 : (⟨S16, .f32⟩ : BufTy).Contents (Elt F) → (⟨S1x16, .f32⟩ : BufTy).Contents (Elt F)),
    unary main_v11 main_v12 (broadcastInDim S8192x16 ![0, 1] bcast_S1x16_S8192x16_0_1 : (⟨S1x16, .f32⟩ : BufTy).Contents (Elt F) → (⟨S8192x16, .f32⟩ : BufTy).Contents (Elt F)),
    binary main_v10 main_v12 main_v13 (addf : (⟨S8192x16, .f32⟩ : BufTy).Contents (Elt F) → (⟨S8192x16, .f32⟩ : BufTy).Contents (Elt F) → (⟨S8192x16, .f32⟩ : BufTy).Contents (Elt F)),
    unary main_v13 main_v14 (Host.negf : (⟨S8192x16, .f32⟩ : BufTy).Contents (Elt F) → (⟨S8192x16, .f32⟩ : BufTy).Contents (Elt F)),
    unary main_v14 main_v15 (Host.exp : (⟨S8192x16, .f32⟩ : BufTy).Contents (Elt F) → (⟨S8192x16, .f32⟩ : BufTy).Contents (Elt F)),
    nullary main_cst_1 (constant S_ .f32 0x3F800000#32),
    unary main_cst_1 main_v16 (broadcastInDim S8192x16 ![] bcast_S_S8192x16 : (⟨S_, .f32⟩ : BufTy).Contents (Elt F) → (⟨S8192x16, .f32⟩ : BufTy).Contents (Elt F)),
    binary main_v16 main_v15 main_v17 (addf : (⟨S8192x16, .f32⟩ : BufTy).Contents (Elt F) → (⟨S8192x16, .f32⟩ : BufTy).Contents (Elt F) → (⟨S8192x16, .f32⟩ : BufTy).Contents (Elt F)),
    nullary main_cst_2 (constant S_ .f32 0x3F800000#32),
    unary main_cst_2 main_v18 (broadcastInDim S8192x16 ![] bcast_S_S8192x16 : (⟨S_, .f32⟩ : BufTy).Contents (Elt F) → (⟨S8192x16, .f32⟩ : BufTy).Contents (Elt F)),
    binary main_v18 main_v17 main_v19 (Host.divf : (⟨S8192x16, .f32⟩ : BufTy).Contents (Elt F) → (⟨S8192x16, .f32⟩ : BufTy).Contents (Elt F) → (⟨S8192x16, .f32⟩ : BufTy).Contents (Elt F)),
    nullary main_cst_3 (constant S_ .f32 0x3F000000#32),
    unary main_cst_3 main_v20 (broadcastInDim S8192x16 ![] bcast_S_S8192x16 : (⟨S_, .f32⟩ : BufTy).Contents (Elt F) → (⟨S8192x16, .f32⟩ : BufTy).Contents (Elt F)),
    binary main_v19 main_v20 main_v21 (cmpf .ogt : (⟨S8192x16, .f32⟩ : BufTy).Contents (Elt F) → (⟨S8192x16, .f32⟩ : BufTy).Contents (Elt F) → (⟨S8192x16, .i1⟩ : BufTy).Contents (Elt F)),
    unary main_v21 main_v22 (uitofp .f32 : (⟨S8192x16, .i1⟩ : BufTy).Contents (Elt F) → (⟨S8192x16, .f32⟩ : BufTy).Contents (Elt F)) ]

/-- The other operations: the layer's column of gates, the dense layer, the choice between it and the input. -/
abbrev layerOps : List (HloOp τ sig (Elt F)) :=
  [ nullary main_c (constantI S_ 32 0#32),
    nullary main_c_4 (constantI S_ 32 0#32),
    binary main_c main_c_4 main_v23 (cmpi .slt : (⟨S_, .i32⟩ : BufTy).Contents (Elt F) → (⟨S_, .i32⟩ : BufTy).Contents (Elt F) → (⟨S_, .i1⟩ : BufTy).Contents (Elt F)),
    nullary main_c_5 (constantI S_ 32 0#32),
    nullary main_c_6 (constantI S_ 32 8192#32),
    binary main_c_5 main_c_6 main_v24 (addi : (⟨S_, .i32⟩ : BufTy).Contents (Elt F) → (⟨S_, .i32⟩ : BufTy).Contents (Elt F) → (⟨S_, .i32⟩ : BufTy).Contents (Elt F)),
    nullary main_c_7 (constantI S_ 32 0#32),
    ternary main_v23 main_v24 main_c_7 main_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    binary main_arg7 main_c_8 main_v26 (cmpi .slt : (⟨S_, .i32⟩ : BufTy).Contents (Elt F) → (⟨S_, .i32⟩ : BufTy).Contents (Elt F) → (⟨S_, .i1⟩ : BufTy).Contents (Elt F)),
    nullary main_c_9 (constantI S_ 32 16#32),
    binary main_arg7 main_c_9 main_v27 (addi : (⟨S_, .i32⟩ : BufTy).Contents (Elt F) → (⟨S_, .i32⟩ : BufTy).Contents (Elt F) → (⟨S_, .i32⟩ : BufTy).Contents (Elt F)),
    ternary main_v26 main_v27 main_arg7 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v22 ![main_v25, main_v28] ⟨S_, .i32⟩ main_v29 ((fun x i => Host.dynamicSlice S8192x1 x (fun k => (i k (Shape.Idx.first h_S_)).toInt) sliceFits_S8192x16_S8192x1) : (⟨S8192x16, .f32⟩ : BufTy).Contents (Elt F) → (Fin 2 → (⟨S_, .i32⟩ : BufTy).Contents (Elt F)) → (⟨S8192x1, .f32⟩ : BufTy).Contents (Elt F)),
    reshape main_v29 main_v30 (rfl : (.f32 : EltTy) = .f32) shapeCasts_S8192x1_S8192,
    nullary main_cst_10 (constant S_ .f32 0x00000000#32),
    unary main_cst_10 main_v31 (broadcastInDim S8192 ![] bcast_S_S8192 : (⟨S_, .f32⟩ : BufTy).Contents (Elt F) → (⟨S8192, .f32⟩ : BufTy).Contents (Elt F)),
    binary main_v30 main_v31 main_v32 (cmpf .ogt : (⟨S8192, .f32⟩ : BufTy).Contents (Elt F) → (⟨S8192, .f32⟩ : BufTy).Contents (Elt F) → (⟨S8192, .i1⟩ : BufTy).Contents (Elt F)),
    binary main_arg0 main_arg5 main_v33 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    unary main_arg6 main_v34 (broadcastInDim S1x2048 ![1] bcast_S2048_S1x2048_1 : (⟨S2048, .f32⟩ : BufTy).Contents (Elt F) → (⟨S1x2048, .f32⟩ : BufTy).Contents (Elt F)),
    unary main_v34 main_v35 (broadcastInDim S8192x2048 ![0, 1] bcast_S1x2048_S8192x2048_0_1 : (⟨S1x2048, .f32⟩ : BufTy).Contents (Elt F) → (⟨S8192x2048, .f32⟩ : BufTy).Contents (Elt F)),
    binary main_v33 main_v35 main_v36 (addf : (⟨S8192x2048, .f32⟩ : BufTy).Contents (Elt F) → (⟨S8192x2048, .f32⟩ : BufTy).Contents (Elt F) → (⟨S8192x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x2048, .f32⟩) main_call1_v0) (broadcastInDim S8192x2048 ![] bcast_S_S8192x2048),
    TRef.binary (TRef.of (T := ⟨S8192x2048, .f32⟩) main_v36) (TRef.of (T := ⟨S8192x2048, .f32⟩) main_call1_v0) (TRef.of (T := ⟨S8192x2048, .f32⟩) main_v37) maximumf,
    unary main_v32 main_v38 (broadcastInDim S8192x1 ![0] bcast_S8192_S8192x1_0 : (⟨S8192, .i1⟩ : BufTy).Contents (Elt F) → (⟨S8192x1, .i1⟩ : BufTy).Contents (Elt F)),
    TRef.unary (TRef.of (T := ⟨S8192x1, .i1⟩) main_v38) (TRef.of (T := ⟨S8192x2048, .i1⟩) main_call2_v0) (broadcastInDim S8192x2048 ![0, 1] bcast_S8192x1_S8192x2048_0_1),
    TRef.ternary (TRef.of (T := ⟨S8192x2048, .i1⟩) main_call2_v0) (TRef.of (T := ⟨S8192x2048, .f32⟩) main_v37) (TRef.of (T := ⟨S8192x2048, .f32⟩) main_arg0) (TRef.of (T := ⟨S8192x2048, .f32⟩) main_v39) select ]

/-- The program runs the two stretches in order. -/
theorem main_eq (c : Dev nD) : main (F := F) c = seq (gateOps ++ layerOps) := rfl

/-- Nothing is scoped to the core: no buffer, -/
theorem no_scopedRefs : (Finset.univ.filter fun b : Ref sig .tc => b.isScoped) = ∅ := by decide
/-- and no semaphore. -/
theorem no_scopedSems : (Finset.univ.filter fun sm : SemLoc sig => sm.isScoped .tc) = ∅ := by decide

/-- Every operation touches the core's own buffers only. -/
theorem ops_sub : (gateOps ++ layerOps : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., unaryIndexed_bufs_sub .., reshape_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., ternary_bufs_sub ..⟩

/-! ## What the operations compute -/

/-- The gate of every row and layer, as a zero or a one. -/
def gates (x : Vec F S8192x2048 .f32) (W1 : Vec F S2048x512 .f32) (b1 : Vec F S512 .f32) (W2 : Vec F S512x16 .f32) (b2 : Vec F S16 .f32) : Vec F S8192x16 .f32 :=
  uitofp .f32 (cmpf .ogt (Host.divf (broadcastInDim S8192x16 ![] bcast_S_S8192x16 (constant S_ .f32 0x3F800000#32)) (addf (broadcastInDim S8192x16 ![] bcast_S_S8192x16 (constant S_ .f32 0x3F800000#32)) (Host.exp (Host.negf (addf (Host.dotGeneral dot_S8192x512_S512x16_S8192x16_1_0_0_1_n_n none (maximumf (addf (Host.dotGeneral dot_S8192x2048_S2048x512_S8192x512_1_0_0_1_n_n none (broadcastInDim S8192x2048 ![0, 1] bcast_S8192x1_S8192x2048_0_1 (Host.divf (broadcastInDim S8192x1 ![0] bcast_S8192_S8192x1_0 (Host.reduceAdd x (constant S_ .f32 0x00000000#32) reducesTo_S8192x2048_S8192_d1 h_S_)) (broadcastInDim S8192x1 ![] bcast_S_S8192x1 (constant S_ .f32 0x45000000#32)))) W1) (broadcastInDim S8192x512 ![0, 1] bcast_S1x512_S8192x512_0_1 (broadcastInDim S1x512 ![1] bcast_S512_S1x512_1 b1))) (broadcastInDim S8192x512 ![] bcast_S_S8192x512 (constant S_ .f32 0x00000000#32))) W2) (broadcastInDim S8192x16 ![0, 1] bcast_S1x16_S8192x16_0_1 (broadcastInDim S1x16 ![1] bcast_S16_S1x16_1 b2))))))) (broadcastInDim S8192x16 ![] bcast_S_S8192x16 (constant S_ .f32 0x3F000000#32)))

/-- The two start indices of the column's slice: row zero, and the layer (counted from the end where it is negative). -/
def start (idx : Vec F S_ .i32) : Fin 2 → Vec F S_ .i32 :=
  ![select (cmpi .slt (constantI S_ 32 0#32) (constantI S_ 32 0#32)) (addi (constantI S_ 32 0#32) (constantI S_ 32 8192#32)) (constantI S_ 32 0#32), select (cmpi .slt idx (constantI S_ 32 0#32)) (addi idx (constantI S_ 32 16#32)) idx]

/-- The result: a row of the dense layer where the gate at the start indices `k` is above zero, the row of the input elsewhere. -/
def resultAt (x : Vec F S8192x2048 .f32) (g : Vec F S8192x16 .f32) (Wl : Vec F S2048x2048 .f32) (bl : Vec F S2048 .f32) (k : Fin 2 → ℤ) : Vec F S8192x2048 .f32 :=
  select (broadcastInDim S8192x2048 ![0, 1] bcast_S8192x1_S8192x2048_0_1 (broadcastInDim S8192x1 ![0] bcast_S8192_S8192x1_0 (cmpf .ogt (shapeCast _ (Host.dynamicSlice S8192x1 g k sliceFits_S8192x16_S8192x1) shapeCasts_S8192x1_S8192 : (⟨S8192, .f32⟩ : BufTy).Contents (Elt F)) (broadcastInDim S8192 ![] bcast_S_S8192 (constant S_ .f32 0x00000000#32))))) (maximumf (addf (Host.dotGeneral dot_S8192x2048_S2048x2048_S8192x2048_1_0_0_1_n_n none x Wl) (broadcastInDim S8192x2048 ![0, 1] bcast_S1x2048_S8192x2048_0_1 (broadcastInDim S1x2048 ![1] bcast_S2048_S1x2048_1 bl))) (broadcastInDim S8192x2048 ![] bcast_S_S8192x2048 (constant S_ .f32 0x00000000#32))) x

/-- The result at the layer index `idx`. -/
def result (x : Vec F S8192x2048 .f32) (g : Vec F S8192x16 .f32) (Wl : Vec F S2048x2048 .f32) (bl : Vec F S2048 .f32) (idx : Vec F S_ .i32) : Vec F S8192x2048 .f32 :=
  resultAt x g Wl bl fun k => (start idx k (Shape.Idx.first h_S_)).toInt

set_option maxHeartbeats 2000000 in
/-- The first stretch leaves the gates. -/
theorem after_gateOps (V : Valuation τ sig (Elt F)) :
    after gateOps V main_v22 = gates (V main_arg0) (V main_arg1) (V main_arg2) (V main_arg3) (V main_arg4) := by
  simp only [gateOps, TRef.binary, TRef.nullary, TRef.ternary, TRef.unary, TRef.toBuf, TRef.ofBuf, cast_eq]
  after_results_simp
  try rfl

set_option maxHeartbeats 2000000 in
/-- The second stretch leaves the result. -/
theorem after_layerOps (V : Valuation τ sig (Elt F)) :
    after layerOps V main_v39 = result (V main_arg0) (V main_v22) (V main_arg5) (V main_arg6) (V main_arg7) := by
  simp only [layerOps, TRef.binary, TRef.nullary, TRef.ternary, TRef.unary, TRef.toBuf, TRef.ofBuf, cast_eq]
  after_results_simp
  unfold result
  refine Eq.trans (b := resultAt (V main_arg0) (V main_v22) (V main_arg5) (V main_arg6) _) rfl (congrArg _ (funext fun k => ?_))
  unfold start
  fin_cases k
  · simp only [Fin.zero_eta, Matrix.cons_val_zero]; after_results_simp; rfl
  · simp only [Fin.mk_one, Matrix.cons_val_one, Matrix.cons_val_zero]; after_results_simp; rfl

/-- The first stretch writes no argument. -/
theorem gateOps_kept (V : Valuation τ sig (Elt F)) (b : Ref sig .tc) (hb : b ∈ [main_arg0, main_arg1, main_arg2, main_arg3, main_arg4, main_arg5, main_arg6, main_arg7]) : after gateOps V b = V b := by
  simp only [List.mem_cons, List.not_mem_nil, or_false] at hb
  rcases hb with rfl | rfl | rfl | rfl | rfl | rfl | rfl | rfl <;>
    (simp only [gateOps, TRef.binary, TRef.nullary, TRef.ternary, TRef.unary, TRef.toBuf, TRef.ofBuf, cast_eq]; after_results_simp)

/-- The second stretch writes no argument. -/
theorem layerOps_kept (V : Valuation τ sig (Elt F)) (b : Ref sig .tc) (hb : b ∈ [main_arg0, main_arg1, main_arg2, main_arg3, main_arg4, main_arg5, main_arg6, main_arg7]) : after layerOps V b = V b := by
  simp only [List.mem_cons, List.not_mem_nil, or_false] at hb
  rcases hb with rfl | rfl | rfl | rfl | rfl | rfl | rfl | rfl <;>
    (simp only [layerOps, TRef.binary, TRef.nullary, TRef.ternary, TRef.unary, TRef.toBuf, TRef.ofBuf, cast_eq]; after_results_simp)

/-- Two stretches one after the other. -/
theorem after_two : ∀ (l₁ l₂ : List (HloOp τ sig (Elt F))) (V : Valuation τ sig (Elt F)), after (l₁ ++ l₂) V = after l₂ (after l₁ V)
  | [], _, _ => rfl
  | op :: l₁, l₂, V => after_two l₁ l₂ (op.result V)

/-- The program leaves every argument as it was. -/
theorem args_kept (V : Valuation τ sig (Elt F)) (b : Ref sig .tc) (hb : b ∈ [main_arg0, main_arg1, main_arg2, main_arg3, main_arg4, main_arg5, main_arg6, main_arg7]) : after (gateOps ++ layerOps) V b = V b := by
  rw [after_two, layerOps_kept _ b hb, gateOps_kept V b hb]

/-- The program, run from any memory with zero counters: the result is the expression of the arguments, and the arguments are as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = result (m ((c.tc : Thread nD τ).loc main_arg0))
            (gates (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    refine ⟨(h c main_v39).trans ?_, (h c main_arg0).trans (args_kept _ _ (by decide)), (h c main_arg1).trans (args_kept _ _ (by decide)),
      (h c main_arg2).trans (args_kept _ _ (by decide)), (h c main_arg3).trans (args_kept _ _ (by decide)), (h c main_arg4).trans (args_kept _ _ (by decide)),
      (h c main_arg5).trans (args_kept _ _ (by decide)), (h c main_arg6).trans (args_kept _ _ (by decide)), (h c main_arg7).trans (args_kept _ _ (by decide))⟩
    rw [after_two, after_layerOps, after_gateOps, gateOps_kept _ main_arg0 (by decide), gateOps_kept _ main_arg5 (by decide),
      gateOps_kept _ main_arg6 (by decide), gateOps_kept _ main_arg7 (by decide)])
    (run_seq no_scopedRefs no_scopedSems defs main (fun _ => gateOps ++ layerOps) main_eq (fun _ => ops_sub) m ρ)

/-- The program leaves its arguments as they were and every counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems (by decide) r.2⟩) (run m ρ)

end Cert.ReferenceIdeal.Gate

end
-- ==== Proof.Pre.lean ====
/- What the precondition says: the activations and the gate's first weights are finite, and the index names a layer. -/
module

public import proofs.«01_k».proof.Pre_finite_inputs
public import Idealize.ShloMosaic.Lib.Pointwise
public import Idealize.ShloMosaic.PureOps.Ideal

@[expose] public section

noncomputable section

namespace Cert.FiniteInputs

open Idealize.ShloMosaic Cert.Pre_finite_inputs

/-- The shape relations the precondition's program states. -/
theorem facts : Cert.Pre_finite_inputs.Facts where
  bcast_S_S8192x2048 := by decide
  bcast_S_S2048x512 := by decide

/-- The bound's pattern is the top of the extended reals. -/
theorem bound_top : Ideal.ofBits .f32 0x7F800000#32 = (⊤ : EReal) := by
  simp [Ideal.ofBits, Ideal.ieee]

/-- An extended real of absolute value below the top is finite. -/
theorem finite_of_abs (x : EReal) (h : BitVec.ofBool (decide (max x (-x) < ⊤)) = 1#1) : x ≠ ⊤ ∧ x ≠ ⊥ := by
  constructor <;> rintro rfl <;> simp at h

/-- A word between 0 and 16 is one of the sixteen. -/
theorem word_range (w : BitVec 32) (h : Scalar.cmpi .sge w 0#32 &&& Scalar.cmpi .slt w 16#32 = 1#1) : ∃ j : Fin 16, w = BitVec.ofNat 32 j := by
  have hb : ∀ a b : Bool, BitVec.ofBool a &&& BitVec.ofBool b = 1#1 → a = true ∧ b = true := by decide
  obtain ⟨h0, h1⟩ := hb ((0#32).sle w) (w.slt 16#32) h
  rw [BitVec.sle, decide_eq_true_eq] at h0
  rw [BitVec.slt, decide_eq_true_eq] at h1
  rw [show (0#32).toInt = 0 by decide] at h0
  rw [show (16#32).toInt = 16 by decide] at h1
  have hw := BitVec.toInt_eq_toNat_cond w
  have hl := w.isLt
  have hn : w.toNat < 16 := by split at hw <;> omega
  exact ⟨⟨w.toNat, hn⟩, BitVec.eq_of_toNat_eq (by simp)⟩

variable [Facts] (x : FVec Ideal S8192x2048 .f32) (W1 : FVec Ideal S2048x512 .f32) (b1 : FVec Ideal S512 .f32) (W2 : FVec Ideal S512x16 .f32)
  (b2 : FVec Ideal S16 .f32) (Wl : FVec Ideal S2048x2048 .f32) (bl : FVec Ideal S2048 .f32) (idx : IVec S_ 32)

/-- The activations are finite. -/
theorem finite_x (h : (fn x W1 b1 W2 b2 Wl bl idx).1 = fun _ => 1#1) (i : S8192x2048.Idx) : x i ≠ (⊤ : EReal) ∧ x i ≠ (⊥ : EReal) := by
  have h := congrFun h i
  refine finite_of_abs _ ?_
  rw [← bound_top]
  exact h

/-- The gate's first weights are finite. -/
theorem finite_W1 (h : (fn x W1 b1 W2 b2 Wl bl idx).2.1 = fun _ => 1#1) (i : S2048x512.Idx) : W1 i ≠ (⊤ : EReal) ∧ W1 i ≠ (⊥ : EReal) := by
  have h := congrFun h i
  refine finite_of_abs _ ?_
  rw [← bound_top]
  exact h

/-- The index is a layer's. -/
theorem layer (h : (fn x W1 b1 W2 b2 Wl bl idx).2.2 = fun _ => 1#1) : ∃ j : Fin 16, idx ix0 = BitVec.ofNat 32 j :=
  word_range _ (congrFun h ix0)

end Cert.FiniteInputs

end
-- ==== Proof.Math.lean ====
/- The gated layer over the extended reals, one row at a time, and the law the fast gate rests on: a finite factor taken out of a sum of
   finite numbers. -/
module

public import Idealize.ShloMosaic.Lib.Pointwise
public import Idealize.ShloMosaic.Lib.IdealHost

@[expose] public section

noncomputable section

namespace Cert.GatedLayer

open Idealize.ShloMosaic

/-- The mean of a row: its sum over the number of columns. -/
def mean (x : Fin 2048 → EReal) : EReal := Ideal.div (∑ k, x k) (Ideal.ofBits .f32 0x45000000#32)

/-- A layer's logit for a row: the gate's two dense layers on the row's mean, repeated along the columns. -/
def logit (x : Fin 2048 → EReal) (W1 : Fin 2048 → Fin 512 → EReal) (b1 : Fin 512 → EReal) (W2 : Fin 512 → EReal) (b2 : EReal) : EReal :=
  ∑ h, max (∑ k, mean x * W1 k h + b1 h) 0 * W2 h + b2

/-- The gate's bit for a logit: whether its sigmoid is above one half. -/
def gate (l : EReal) : BitVec 1 := BitVec.ofBool (decide (Ideal.ofBits .f32 0x3F000000#32 < Ideal.logistic l))

/-- An element of the result: the dense layer's where the gate is open, the input's where it is shut. -/
def element (g : BitVec 1) (x : Fin 2048 → EReal) (Wl : Fin 2048 → EReal) (bl : EReal) (xl : EReal) : EReal :=
  Scalar.select g (max (∑ k, x k * Wl k + bl) 0) xl

/-- The row length's pattern is the real number 2048. -/
theorem rowLength : Ideal.ofBits .f32 0x45000000#32 = ((2048 : ℝ) : EReal) := by
  simp [Ideal.ofBits, Ideal.ieee, -EReal.coe_mul]; norm_num

/-- The sum of real numbers, read as extended reals, is the sum read as one. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A family of finite extended reals is a family of real numbers. -/
theorem exists_real {ι : Type} (f : ι → EReal) (hf : ∀ i, f i ≠ ⊤ ∧ f i ≠ ⊥) : ∃ g : ι → ℝ, f = fun i => (g i : EReal) :=
  ⟨fun i => (f i).toReal, funext fun i => (EReal.coe_toReal (hf i).1 (hf i).2).symm⟩

/-- The mean of a finite row is a real number. -/
theorem mean_real (x : Fin 2048 → EReal) (hx : ∀ k, x k ≠ ⊤ ∧ x k ≠ ⊥) : ∃ μ : ℝ, mean x = μ := by
  obtain ⟨g, rfl⟩ := exists_real x hx
  refine ⟨(∑ k, g k) * (2048 : ℝ)⁻¹, ?_⟩
  unfold mean Ideal.div
  rw [rowLength, if_neg (by exact_mod_cast (by norm_num : (2048 : ℝ) ≠ 0)), ← coe_sum, ← EReal.coe_inv, ← EReal.coe_mul]

/-- The mean times a column's sum is the sum of the mean's products with the column, the row and the column being finite. -/
theorem mean_mul_sum (x : Fin 2048 → EReal) (hx : ∀ k, x k ≠ ⊤ ∧ x k ≠ ⊥) (W : Fin 2048 → EReal) (hW : ∀ k, W k ≠ ⊤ ∧ W k ≠ ⊥) :
    mean x * ∑ k, W k = ∑ k, mean x * W k := by
  obtain ⟨μ, hμ⟩ := mean_real x hx
  obtain ⟨g, rfl⟩ := exists_real W hW
  rw [hμ, ← coe_sum, ← EReal.coe_mul, Finset.mul_sum, coe_sum]
  simp only [EReal.coe_mul]

/-- The sum that a one-hot select of a row leaves is the row's entry there. -/
theorem sum_oneHot (f : Fin 16 → EReal) (w : BitVec 32) (j : Fin 16) (hw : w = BitVec.ofNat 32 j) :
    ∑ i : Fin 16, Scalar.select (IntOp.cmpi .eq (BitVec.ofNat 32 (i : ℕ)) w) (f i) 0 = f j := by
  rw [Finset.sum_eq_single j]
  · rw [hw, IntOp.cmpi_eq_self]; rfl
  · intro i _ hij
    have hne : BitVec.ofNat 32 (i : ℕ) ≠ w := by
      rw [hw]; intro h
      have := congrArg BitVec.toNat h
      simp only [BitVec.toNat_ofNat] at this
      exact hij (Fin.ext (by omega))
    simp [IntOp.cmpi, beq_eq_false_iff_ne.mpr hne, Scalar.select]
  · intro h; exact absurd (Finset.mem_univ j) h

end Cert.GatedLayer

end
-- ==== Proof.GateIdeal.Payload.lean ====
/- The kernel's output block at an index, over the extended reals: both ways of computing the logits give the gated layer. -/
module

public import proofs.«01_k».proof.Proof.GateIdeal.Body
public import proofs.«01_k».proof.Proof.Math

@[expose] public section

set_option maxRecDepth 16384

noncomputable section

namespace Cert.KernelIdeal.Gate

open Cert.KernelIdeal.Gen Idealize.ShloMosaic Cert.GatedLayer

/-- The carried row holds the sums of the columns of the first weights. -/
theorem colSums_at (W1 : Vec Ideal S2048x512 .bf16) (h : Fin 512) : k0_pay2 W1 (ix2 0 h) = ∑ k, W1 (ix2 k h) := by
  pointwise [k0_pay2]

/-- The logits recomputed with the repeated mean are the gated layer's. -/
theorem recomputed_at (x : Vec Ideal S256x2048 .f32) (W1 : Vec Ideal S2048x512 .bf16) (b1 : Vec Ideal S1x512 .f32) (W2 : Vec Ideal S512x16 .bf16)
    (b2 : Vec Ideal S1x16 .f32) (r : Fin 256) (j : Fin 16) :
    k0_pay7 (k0_pay3 x) W1 b1 W2 b2 (ix2 r j)
      = logit (fun k => x (ix2 r k)) (fun k h => W1 (ix2 k h)) (fun h => b1 (ix2 0 h)) (fun h => W2 (ix2 h j)) (b2 (ix2 0 j)) := by
  pointwise [k0_pay7, k0_pay3]
  rfl

/-- The fast logits, from the column sums, are the gated layer's too, where the row and the first weights are finite. -/
theorem fast_at (x : Vec Ideal S256x2048 .f32) (W1 : Vec Ideal S2048x512 .bf16) (s b1 : Vec Ideal S1x512 .f32) (W2 : Vec Ideal S512x16 .bf16)
    (b2 : Vec Ideal S1x16 .f32) (hx : ∀ i, x i ≠ ⊤ ∧ x i ≠ ⊥) (hW : ∀ i, W1 i ≠ ⊤ ∧ W1 i ≠ ⊥) (hs : ∀ h, s (ix2 0 h) = ∑ k, W1 (ix2 k h))
    (r : Fin 256) (j : Fin 16) :
    k0_pay4 x s b1 W2 b2 (ix2 r j)
      = logit (fun k => x (ix2 r k)) (fun k h => W1 (ix2 k h)) (fun h => b1 (ix2 0 h)) (fun h => W2 (ix2 h j)) (b2 (ix2 0 j)) := by
  pointwise [k0_pay4, k0_pay3]
  unfold logit
  simp only [hs, ← mean_mul_sum (fun k => x (ix2 r k)) (fun k => hx _) (fun k => W1 (ix2 k _)) (fun k => hW _)]
  rfl

/-- The logits a point decides by, whichever way it computes them. -/
theorem logits_at (w : Elt Ideal .i32) (x : Vec Ideal S256x2048 .f32) (W1 : Vec Ideal S2048x512 .bf16) (s b1 : Vec Ideal S1x512 .f32)
    (W2 : Vec Ideal S512x16 .bf16) (b2 : Vec Ideal S1x16 .f32) (hx : ∀ i, x i ≠ ⊤ ∧ x i ≠ ⊥) (hW : ∀ i, W1 i ≠ ⊤ ∧ W1 i ≠ ⊥)
    (hs : ∀ h, s (ix2 0 h) = ∑ k, W1 (ix2 k h)) (r : Fin 256) (j : Fin 16) :
    logits w x W1 b1 W2 b2 s (ix2 r j)
      = logit (fun k => x (ix2 r k)) (fun k h => W1 (ix2 k h)) (fun h => b1 (ix2 0 h)) (fun h => W2 (ix2 h j)) (b2 (ix2 0 j)) := by
  unfold logits
  split
  · exact recomputed_at x W1 b1 W2 b2 r j
  · exact fast_at x W1 s b1 W2 b2 hx hW hs r j

/-- The gate of a row: the one of the logit at the layer whose word the index is. -/
theorem gate_at (lg : Vec Ideal S256x16 .f32) (w : Elt Ideal .i32) (j : Fin 16) (hw : w = BitVec.ofNat 32 j) (r : Fin 256) :
    k0_pay8 lg w (ix2 r 0) = gate (lg (ix2 r j)) := by
  pointwise [k0_pay8]
  unfold gate
  rw [sum_oneHot (fun i => lg (ix2 r i)) w j hw]

/-- The output block at an index is the gated layer's element of the block's row. -/
theorem outBlock_at (w : Elt Ideal .i32) (j : Fin 16) (hw : w = BitVec.ofNat 32 j) (x : Vec Ideal S256x2048 .f32) (W1 : Vec Ideal S2048x512 .bf16)
    (s b1 : Vec Ideal S1x512 .f32) (W2 : Vec Ideal S512x16 .bf16) (b2 : Vec Ideal S1x16 .f32) (Wl : Vec Ideal S2048x2048 .bf16) (bl : Vec Ideal S1x2048 .f32)
    (hx : ∀ i, x i ≠ ⊤ ∧ x i ≠ ⊥) (hW : ∀ i, W1 i ≠ ⊤ ∧ W1 i ≠ ⊥) (hs : ∀ h, s (ix2 0 h) = ∑ k, W1 (ix2 k h)) (r : Fin 256) (l : Fin 2048) :
    outBlock w x W1 b1 W2 b2 Wl bl s (ix2 r l)
      = element (gate (logit (fun k => x (ix2 r k)) (fun k h => W1 (ix2 k h)) (fun h => b1 (ix2 0 h)) (fun h => W2 (ix2 h j)) (b2 (ix2 0 j))))
          (fun k => x (ix2 r k)) (fun k => Wl (ix2 k l)) (bl (ix2 0 l)) (x (ix2 r l)) := by
  rw [← logits_at w x W1 s b1 W2 b2 hx hW hs r j, ← gate_at _ w j hw r]
  unfold outBlock
  generalize k0_pay8 (logits w x W1 b1 W2 b2 s) w = g
  pointwise [k0_pay1, k0_pay9, k0_pay10]
  rfl

end Cert.KernelIdeal.Gate

end
-- ==== Proof.GateIdeal.Value.lean ====
/- The kernel's result array over the extended reals. -/
module

public import proofs.«01_k».proof.Proof.GateIdeal.Frame
public import proofs.«01_k».proof.Proof.GateIdeal.Payload
public import Idealize.ShloMosaic.Lib.Pipeline.ValueKit
public import Idealize.ShloMosaic.Lib.Pipeline.Covers
public import Idealize.ShloMosaic.Lib.StableHlo.Run

@[expose] public section

set_option maxRecDepth 16384

noncomputable section

namespace Cert.KernelIdeal.Gate

open Cert.KernelIdeal.Gen Idealize.ShloMosaic Idealize.ShloMosaic.TcCoe Idealize.SL.Sem Cert.GatedLayer
open Idealize.ShloMosaic.Pipeline (Dat Cfg Window)

variable (m : (ℓ : Loc nD τ sig) → Buf (Elt Ideal) ℓ) (ρ : Dev nD → PrngReg)

/-! ## What the launch finds in the arrays the host casts and reshapes -/

/-- The prefetched table is the layer's index. -/
theorem V_main_v0 (c : Dev nD) : V m c main_v0 = shapeCast S1 (m ((c : Thread nD τ).loc main_arg7)) shapeCasts_S_S1 := by
  unfold V; simp only [hostOps0]; after_results_simp; try rfl
/-- The layer's weights, unchanged by the cast. -/
theorem V_main_v1 (c : Dev nD) : V m c main_v1 = m ((c : Thread nD τ).loc main_arg5) := by
  unfold V; simp only [hostOps0]; after_results_simp; try rfl
/-- The first gating weights, unchanged by the cast. -/
theorem V_main_v2 (c : Dev nD) : V m c main_v2 = m ((c : Thread nD τ).loc main_arg1) := by
  unfold V; simp only [hostOps0]; after_results_simp; try rfl
/-- The second gating weights, unchanged by the cast. -/
theorem V_main_v3 (c : Dev nD) : V m c main_v3 = m ((c : Thread nD τ).loc main_arg3) := by
  unfold V; simp only [hostOps0]; after_results_simp; try rfl
/-- The first gating bias as one row. -/
theorem V_main_v4 (c : Dev nD) : V m c main_v4 = shapeCast S1x512 (m ((c : Thread nD τ).loc main_arg2)) shapeCasts_S512_S1x512 := by
  unfold V; simp only [hostOps0]; after_results_simp; try rfl
/-- The second gating bias as one row. -/
theorem V_main_v5 (c : Dev nD) : V m c main_v5 = shapeCast S1x16 (m ((c : Thread nD τ).loc main_arg4)) shapeCasts_S16_S1x16 := by
  unfold V; simp only [hostOps0]; after_results_simp; try rfl
/-- The layer's bias as one row. -/
theorem V_main_v6 (c : Dev nD) : V m c main_v6 = shapeCast S1x2048 (m ((c : Thread nD τ).loc main_arg6)) shapeCasts_S2048_S1x2048 := by
  unfold V; simp only [hostOps0]; after_results_simp; try rfl

/-! ## Where each block lies in its array -/

/-- At point `t` the rows of `x` staged are those of block `t`. -/
theorem index_0 (t : Fin (cfgA m).N) : ((cfgA m).win 0).index t = ![t.val, 0] :=
  (by decide +kernel : ∀ t : Fin grid0.N, cc0_transform_0 (grid0.coords t) = ![t.val, 0]) t

/-- Window 1's one block is its whole array. -/
theorem index_1 (t : Fin (cfgA m).N) : ((cfgA m).win 1).index t = ![0, 0] :=
  (by decide +kernel : ∀ t : Fin grid0.N, cc0_transform_1 (grid0.coords t) = ![0, 0]) t

/-- Window 2's one block is its whole array. -/
theorem index_2 (t : Fin (cfgA m).N) : ((cfgA m).win 2).index t = ![0, 0] :=
  (by decide +kernel : ∀ t : Fin grid0.N, cc0_transform_2 (grid0.coords t) = ![0, 0]) t

/-- Window 3's one block is its whole array. -/
theorem index_3 (t : Fin (cfgA m).N) : ((cfgA m).win 3).index t = ![0, 0] :=
  (by decide +kernel : ∀ t : Fin grid0.N, cc0_transform_3 (grid0.coords t) = ![0, 0]) t

/-- Window 4's one block is its whole array. -/
theorem index_4 (t : Fin (cfgA m).N) : ((cfgA m).win 4).index t = ![0, 0] :=
  (by decide +kernel : ∀ t : Fin grid0.N, cc0_transform_4 (grid0.coords t) = ![0, 0]) t

/-- Window 5's one block is its whole array. -/
theorem index_5 (t : Fin (cfgA m).N) : ((cfgA m).win 5).index t = ![0, 0] :=
  (by decide +kernel : ∀ t : Fin grid0.N, cc0_transform_5 (grid0.coords t) = ![0, 0]) t

/-- Window 6's one block is its whole array. -/
theorem index_6 (t : Fin (cfgA m).N) : ((cfgA m).win 6).index t = ![0, 0] :=
  (by decide +kernel : ∀ t : Fin grid0.N, cc0_transform_6 (grid0.coords t) = ![0, 0]) t

/-- At point `t` the rows written back are those of block `t`. -/
theorem index_7 (t : Fin (cfgA m).N) : ((cfgA m).win 7).index t = ![t.val, 0] :=
  (by decide +kernel : ∀ t : Fin grid0.N, cc0_transform_7 (grid0.coords t) = ![t.val, 0]) t

/-- Row `r` of the `x` block at point `t` is row `256 t + r` of `x`. -/
theorem iblk_0 (c : Dev nD) (t : Fin (cfgA m).N) (r : Fin 256) (l : Fin 2048) (R : Fin 8192) (hR : (R : ℕ) = t.val * 256 + r.val) :
    iblk m c 0 t (ix2 r l) = m ((c : Thread nD τ).loc main_arg0) (ix2 R l) := by
  blk_simp [iblk]
  refine (congrFun (V_kept m main_arg0 (by decide) c) _).trans (congrArg _ ?_)
  have e := index_0 m t
  blk_ext [e]

/-- Window 1 stages `main_arg1` whole. -/
theorem iblk_1 (c : Dev nD) (t : Fin (cfgA m).N) (r : Fin 2048) (l : Fin 512) :
    iblk m c 1 t (ix2 r l) = m ((c : Thread nD τ).loc main_arg1) (ix2 r l) := by
  blk_simp [iblk]
  refine (congrFun (V_main_v2 m c) _).trans (congrArg _ ?_)
  have e := index_1 m t
  blk_ext [e]

/-- Window 2 stages `main_arg2` whole, as one row. -/
theorem iblk_2 (c : Dev nD) (t : Fin (cfgA m).N) (l : Fin 512) :
    iblk m c 2 t (ix2 0 l) = m ((c : Thread nD τ).loc main_arg2) (ix1 l) := by
  blk_simp [iblk]
  have e := index_2 m t
  have h : (((cfgA m).win 2).blk t).view.emb (ix2 0 l) = ix2 0 l := by blk_ext [e]
  refine (congrFun (V_main_v4 m c) _).trans ((congrArg _ h).trans ?_)
  pointwise

/-- Window 3 stages `main_arg3` whole. -/
theorem iblk_3 (c : Dev nD) (t : Fin (cfgA m).N) (r : Fin 512) (l : Fin 16) :
    iblk m c 3 t (ix2 r l) = m ((c : Thread nD τ).loc main_arg3) (ix2 r l) := by
  blk_simp [iblk]
  refine (congrFun (V_main_v3 m c) _).trans (congrArg _ ?_)
  have e := index_3 m t
  blk_ext [e]

/-- Window 4 stages `main_arg4` whole, as one row. -/
theorem iblk_4 (c : Dev nD) (t : Fin (cfgA m).N) (l : Fin 16) :
    iblk m c 4 t (ix2 0 l) = m ((c : Thread nD τ).loc main_arg4) (ix1 l) := by
  blk_simp [iblk]
  have e := index_4 m t
  have h : (((cfgA m).win 4).blk t).view.emb (ix2 0 l) = ix2 0 l := by blk_ext [e]
  refine (congrFun (V_main_v5 m c) _).trans ((congrArg _ h).trans ?_)
  pointwise

/-- Window 5 stages `main_arg5` whole. -/
theorem iblk_5 (c : Dev nD) (t : Fin (cfgA m).N) (r : Fin 2048) (l : Fin 2048) :
    iblk m c 5 t (ix2 r l) = m ((c : Thread nD τ).loc main_arg5) (ix2 r l) := by
  blk_simp [iblk]
  refine (congrFun (V_main_v1 m c) _).trans (congrArg _ ?_)
  have e := index_5 m t
  blk_ext [e]

/-- Window 6 stages `main_arg6` whole, as one row. -/
theorem iblk_6 (c : Dev nD) (t : Fin (cfgA m).N) (l : Fin 2048) :
    iblk m c 6 t (ix2 0 l) = m ((c : Thread nD τ).loc main_arg6) (ix1 l) := by
  blk_simp [iblk]
  have e := index_6 m t
  have h : (((cfgA m).win 6).blk t).view.emb (ix2 0 l) = ix2 0 l := by blk_ext [e]
  refine (congrFun (V_main_v6 m c) _).trans ((congrArg _ h).trans ?_)
  pointwise

/-- The word the body reads from the table is the layer's index. -/
theorem word_table (c : Dev nD) : word (table m c) = m ((c : Thread nD τ).loc main_arg7) Idealize.ShloMosaic.ix0 := by
  unfold table
  rw [V_main_v0]
  pointwise [word]

/-- Every block of the result is some point's. -/
theorem out_covers : ((cfgA m).win 7).Covers := by
  refine ((cfgA m).win 7).covers_of_index_surj rfl (show ∀ a : Fin 2, 0 < S256x2048.size a by decide) fun β => ?_
  have h0 : (β (0 : Fin 2) : ℕ) < 32 := lt_of_lt_of_eq (β (0 : Fin 2)).isLt (show (8192 + 256 - 1) / 256 = 32 by decide)
  have h1 : (β (1 : Fin 2) : ℕ) < 1 := lt_of_lt_of_eq (β (1 : Fin 2)).isLt (show (2048 + 2048 - 1) / 2048 = 1 by decide)
  refine ⟨(⟨(β (0 : Fin 2) : ℕ), h0⟩ : Fin 32), fun a => ?_⟩
  refine (congrFun (index_7 m _) a).trans ?_
  revert a
  refine Fin.forall_fin_two.mpr ⟨rfl, ?_⟩
  show 0 = (β (1 : Fin 2) : ℕ)
  omega

/-- The result at row `R` and column `l`, from the launch's arguments. -/
def elementAt (c : Dev nD) (j : Fin 16) (R : Fin 8192) (l : Fin 2048) : EReal :=
  element (gate (logit (fun k => m ((c : Thread nD τ).loc main_arg0) (ix2 R k)) (fun k h => m ((c : Thread nD τ).loc main_arg1) (ix2 k h))
      (fun h => m ((c : Thread nD τ).loc main_arg2) (ix1 h)) (fun h => m ((c : Thread nD τ).loc main_arg3) (ix2 h j))
      (m ((c : Thread nD τ).loc main_arg4) (ix1 j))))
    (fun k => m ((c : Thread nD τ).loc main_arg0) (ix2 R k)) (fun k => m ((c : Thread nD τ).loc main_arg5) (ix2 k l))
    (m ((c : Thread nD τ).loc main_arg6) (ix1 l)) (m ((c : Thread nD τ).loc main_arg0) (ix2 R l))

/-- An element depends on the entries it reads only. -/
theorem element_congr {x x' : Fin 2048 → EReal} {W1 W1' : Fin 2048 → Fin 512 → EReal} {b1 b1' W2 W2' : Fin 512 → EReal} {b2 b2' : EReal}
    {Wl Wl' : Fin 2048 → EReal} {bl bl' xl xl' : EReal} (hx : ∀ k, x k = x' k) (hW1 : ∀ k h, W1 k h = W1' k h) (hb1 : ∀ h, b1 h = b1' h)
    (hW2 : ∀ h, W2 h = W2' h) (hb2 : b2 = b2') (hWl : ∀ k, Wl k = Wl' k) (hbl : bl = bl') (hxl : xl = xl') :
    element (gate (logit x W1 b1 W2 b2)) x Wl bl xl = element (gate (logit x' W1' b1' W2' b2')) x' Wl' bl' xl' := by
  obtain rfl : x = x' := funext hx
  obtain rfl : W1 = W1' := funext fun k => funext (hW1 k)
  obtain rfl : b1 = b1' := funext hb1
  obtain rfl : W2 = W2' := funext hW2
  obtain rfl : Wl = Wl' := funext hWl
  rw [hb2, hbl, hxl]

/-- The block written at point `t`, element by element, where `x` and the first gating weights are finite. -/
theorem outAt_at (c : Dev nD) (j : Fin 16) (hj : m ((c : Thread nD τ).loc main_arg7) Idealize.ShloMosaic.ix0 = BitVec.ofNat 32 j)
    (hx : ∀ i, m ((c : Thread nD τ).loc main_arg0) i ≠ (⊤ : EReal) ∧ m ((c : Thread nD τ).loc main_arg0) i ≠ (⊥ : EReal))
    (hW : ∀ i, m ((c : Thread nD τ).loc main_arg1) i ≠ (⊤ : EReal) ∧ m ((c : Thread nD τ).loc main_arg1) i ≠ (⊥ : EReal))
    (t : Fin (cfgA m).N) (r : Fin 256) (l : Fin 2048) (R : Fin 8192) (hR : (R : ℕ) = t.val * 256 + r.val) :
    outAt m c t (ix2 r l) = elementAt m c j R l := by
  have ht : t.val < 32 := t.isLt
  have hx' : ∀ i : S256x2048.Idx, iblk m c 0 t i ≠ (⊤ : EReal) ∧ iblk m c 0 t i ≠ (⊥ : EReal) := fun i => by
    have h0 : (i 0).val < 256 := (i 0).isLt
    have e : iblk m c 0 t i = _ := (congrArg (iblk m c 0 t) (eq_ix2 i)).trans (iblk_0 m c t (i 0) (i 1) ⟨t.val * 256 + (i 0).val, by omega⟩ rfl)
    exact e ▸ hx _
  have hW' : ∀ i : S2048x512.Idx, iblk m c 1 t i ≠ (⊤ : EReal) ∧ iblk m c 1 t i ≠ (⊥ : EReal) := fun i => by
    have e : iblk m c 1 t i = _ := (congrArg (iblk m c 1 t) (eq_ix2 i)).trans (iblk_1 m c t (i 0) (i 1))
    exact e ▸ hW _
  have hb : (iblk m c 1 (t0 m) : Vec Ideal S2048x512 .bf16) = iblk m c 1 t := funext fun (i : S2048x512.Idx) =>
    (congrArg (iblk m c 1 (t0 m)) (eq_ix2 i)).trans ((iblk_1 m c (t0 m) (i 0) (i 1)).trans
      ((iblk_1 m c t (i 0) (i 1)).symm.trans (congrArg (iblk m c 1 t) (eq_ix2 i).symm)))
  exact (outBlock_at _ j ((word_table m c).trans hj) _ _ _ _ _ _ _ _ hx' hW'
      (fun h => (congrFun (congrArg k0_pay2 hb) _).trans (colSums_at _ h)) r l).trans
    (element_congr (fun k => iblk_0 m c t r k R hR) (fun k h => iblk_1 m c t k h) (fun h => iblk_2 m c t h) (fun h => iblk_3 m c t h j)
      (iblk_4 m c t j) (fun k => iblk_5 m c t k l) (iblk_6 m c t l) (iblk_0 m c t r l R hR))

/-- The result array after the run. -/
theorem out_array (c : Dev nD) (j : Fin 16) (hj : m ((c : Thread nD τ).loc main_arg7) Idealize.ShloMosaic.ix0 = BitVec.ofNat 32 j)
    (hx : ∀ i, m ((c : Thread nD τ).loc main_arg0) i ≠ (⊤ : EReal) ∧ m ((c : Thread nD τ).loc main_arg0) i ≠ (⊥ : EReal))
    (hW : ∀ i, m ((c : Thread nD τ).loc main_arg1) i ≠ (⊤ : EReal) ∧ m ((c : Thread nD τ).loc main_arg1) i ≠ (⊥ : EReal)) :
    (dats m 0 c).arrAt 7 (cfgA m).N = fun i : S8192x2048.Idx => elementAt m c j (i 0) (i 1) := by
  refine (dats m 0 c).arrAt_eq_of_covers 7 _ (out_covers m) fun t hf y => ?_
  blk_simp
  rw [after_7]
  have e := index_7 m t
  have h0 : (y (0 : Fin 2) : ℕ) < 256 := (y (0 : Fin 2)).isLt
  have h1 : (y (1 : Fin 2) : ℕ) < 2048 := (y (1 : Fin 2)).isLt
  have ht : t.val < 32 := t.isLt
  have hy : (((cfgA m).win 7).blk t).view.emb y = ix2 (⟨t.val * 256 + (y (0 : Fin 2) : ℕ), by omega⟩ : Fin 8192) (⟨(y (1 : Fin 2) : ℕ), h1⟩ : Fin 2048) := by
    blk_ext [e]
  refine Eq.trans ?_ (congrArg (fun i : S8192x2048.Idx => elementAt m c j (i 0) (i 1)) hy.symm)
  refine Eq.trans ?_ (outAt_at m c j hj hx hW t ⟨_, h0⟩ ⟨_, h1⟩ _ rfl)
  exact congrArg (outAt m c t) (eq_ix2 (y : S256x2048.Idx))

/-- The run ends with the result at `elementAt` and the arguments as they were. -/
theorem run_value (j : Dev nD → Fin 16) (hj : ∀ c : Dev nD, m ((c : Thread nD τ).loc main_arg7) Idealize.ShloMosaic.ix0 = BitVec.ofNat 32 (j c))
    (hx : ∀ (c : Dev nD) i, m ((c : Thread nD τ).loc main_arg0) i ≠ (⊤ : EReal) ∧ m ((c : Thread nD τ).loc main_arg0) i ≠ (⊥ : EReal))
    (hW : ∀ (c : Dev nD) i, m ((c : Thread nD τ).loc main_arg1) i ≠ (⊤ : EReal) ∧ m ((c : Thread nD τ).loc main_arg1) i ≠ (⊥ : EReal)) :
    θ_run defs (onTc (τ := τ) (main (F := Ideal))) ⟨m, fun _ => 0, ρ⟩ (fun r => ∀ c : Dev nD,
      r.2.mem ((c.tc : Thread nD τ).loc main_v7) = (fun i : S8192x2048.Idx => elementAt m c (j c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 7).trans (out_array m c (j c) (hj c) (hx c) (hW c)), args_kept m h.1 c⟩) (run m ρ)

end Cert.KernelIdeal.Gate

end
-- ==== Proof.Reference.Value.lean ====
/- The reference's result at an index, over the extended reals. -/
module

public import proofs.«01_k».proof.Proof.Reference.Run
public import proofs.«01_k».proof.Proof.Math

@[expose] public section

set_option maxRecDepth 16384

noncomputable section

namespace Cert.ReferenceIdeal.Gate

open Cert.ReferenceIdeal.Gen Idealize.ShloMosaic Cert.GatedLayer

/-- A gate of the reference: one where the logit's sigmoid is above one half, zero elsewhere. -/
theorem gates_at (x : Vec Ideal S8192x2048 .f32) (W1 : Vec Ideal S2048x512 .f32) (b1 : Vec Ideal S512 .f32) (W2 : Vec Ideal S512x16 .f32)
    (b2 : Vec Ideal S16 .f32) (r : Fin 8192) (j : Fin 16) :
    gates x W1 b1 W2 b2 (ix2 r j)
      = (((gate (logit (fun k => x (ix2 r k)) (fun k h => W1 (ix2 k h)) (fun h => b1 (ix1 h)) (fun h => W2 (ix2 h j)) (b2 (ix1 j)))).toNat : ℝ) : EReal) := by
  pointwise [gates]
  rfl

/-- The start indices where the layer index is the word of a layer: row zero, and the layer. -/
theorem start_at (idx : Vec Ideal S_ .i32) (j : Fin 16) (hj : idx ix0 = BitVec.ofNat 32 j) :
    (fun k => (start (F := Ideal) idx k (Shape.Idx.first h_S_)).toInt) = ![0, (j : ℤ)] := by
  funext k
  fin_cases k
  · rfl
  · have e : (Shape.Idx.first h_S_) = ix0 := Subsingleton.elim _ _
    simp only [start, Fin.mk_one, Matrix.cons_val_one, Matrix.cons_val_zero, e]
    pointwise
    rw [hj]
    clear hj
    revert j; decide

/-- Row zero stays row zero, and a layer stays itself, in the slice's start. -/
theorem clamped (j : Fin 16) :
    Host.clampedStart S8192x16 S8192x1 rfl ![0, (j : ℤ)] 0 = 0
      ∧ Host.clampedStart S8192x16 S8192x1 rfl ![0, (j : ℤ)] 1 = j := by
  revert j; decide

/-- The result of the reference at an index, where the slice starts at a layer's column. -/
theorem result_at (x : Vec Ideal S8192x2048 .f32) (g : Vec Ideal S8192x16 .f32) (Wl : Vec Ideal S2048x2048 .f32) (bl : Vec Ideal S2048 .f32)
    (j : Fin 16) (r : Fin 8192) (l : Fin 2048) :
    resultAt x g Wl bl ![0, (j : ℤ)] (ix2 r l)
      = if 0 < g (ix2 r j) then max (∑ k, x (ix2 r k) * Wl (ix2 k l) + bl (ix1 l)) 0 else x (ix2 r l) := by
  pointwise [resultAt]
  have h := clamped j
  congr 2
  refine congrArg g ?_
  congr 1
  · exact Fin.ext ((congrArg (· + (r : ℕ)) h.1).trans (Nat.zero_add _))
  · exact Fin.ext h.2

/-- A bit read as a number is above zero where the bit is set. -/
theorem bit_pos (b : BitVec 1) : (0 : EReal) < ((b.toNat : ℝ) : EReal) ↔ b = 1#1 := by
  rcases BitVec.eq_zero_or_eq_one b with rfl | rfl <;> simp

/-- The whole reference at an index: the gated layer of the row, at the layer the index is the word of. -/
theorem value_at (x : Vec Ideal S8192x2048 .f32) (W1 : Vec Ideal S2048x512 .f32) (b1 : Vec Ideal S512 .f32) (W2 : Vec Ideal S512x16 .f32)
    (b2 : Vec Ideal S16 .f32) (Wl : Vec Ideal S2048x2048 .f32) (bl : Vec Ideal S2048 .f32) (idx : Vec Ideal S_ .i32)
    (j : Fin 16) (hj : idx ix0 = BitVec.ofNat 32 j) (r : Fin 8192) (l : Fin 2048) :
    result x (gates x W1 b1 W2 b2) Wl bl idx (ix2 r l)
      = element (gate (logit (fun k => x (ix2 r k)) (fun k h => W1 (ix2 k h)) (fun h => b1 (ix1 h)) (fun h => W2 (ix2 h j)) (b2 (ix1 j))))
          (fun k => x (ix2 r k)) (fun k => Wl (ix2 k l)) (bl (ix1 l)) (x (ix2 r l)) := by
  unfold result
  rw [start_at idx j hj, result_at, gates_at]
  simp only [bit_pos]
  rfl

end Cert.ReferenceIdeal.Gate

end
-- ==== Proof.Algebraic.lean ====
/- The kernel and the reference end with the same array, over the extended reals. -/
module

public import proofs.«01_k».proof.Defs
public import proofs.«01_k».proof.Proof.Pre
public import proofs.«01_k».proof.Proof.GateIdeal.Value
public import proofs.«01_k».proof.Proof.Reference.Value

@[expose] public section

noncomputable section

namespace Cert.Proof

open Idealize.ShloMosaic Idealize.SL.Sem

/-- The reference's result is the kernel's, element by element, where the index is a layer's. -/
theorem result_eq (m : (ℓ : Loc Cert.KernelIdeal.nD Cert.KernelIdeal.τ Cert.KernelIdeal.sig) → Buf (Elt Ideal) ℓ) (c : Dev Cert.KernelIdeal.nD) (j : Fin 16)
    (hj : m ((c.tc : Thread Cert.KernelIdeal.nD Cert.KernelIdeal.τ).loc Cert.KernelIdeal.main_arg7) ix0 = BitVec.ofNat 32 j) :
    Cert.ReferenceIdeal.Gate.result (F := Ideal) (m ((c.tc : Thread Cert.KernelIdeal.nD Cert.KernelIdeal.τ).loc Cert.KernelIdeal.main_arg0))
      (Cert.ReferenceIdeal.Gate.gates (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = fun i : Cert.KernelIdeal.S8192x2048.Idx => Cert.KernelIdeal.Gate.elementAt m c j (i 0) (i 1) := by
  funext i
  obtain ⟨r, l, rfl⟩ : ∃ (r : Fin 8192) (l : Fin 2048), i = ix2 r l := ⟨i 0, i 1, eq_ix2 i⟩
  exact Cert.ReferenceIdeal.Gate.value_at _ _ _ _ _ _ _ _ j hj r l

/-- From the same arguments, the activations and the first weights finite and the index a layer's, the two programs end with the same result. -/
theorem algebraic : @algebraic_KernelIdeal_ReferenceIdeal_pre_finite_inputs Cert.KernelIdeal.Gen.facts Cert.ReferenceIdeal.Gen.facts Cert.FiniteInputs.facts := by
  intro m g m' g' hpre hargs
  letI := Cert.FiniteInputs.facts
  have hlayer : ∀ c : Dev Cert.KernelIdeal.nD, ∃ j : Fin 16, m ((c.tc : Thread Cert.KernelIdeal.nD Cert.KernelIdeal.τ).loc Cert.KernelIdeal.main_arg7) ix0 = BitVec.ofNat 32 j :=
    fun c => Cert.FiniteInputs.layer _ _ _ _ _ _ _ _ (hpre c).2.2
  choose j hj using hlayer
  refine ⟨fun c => (fun i : Cert.KernelIdeal.S8192x2048.Idx => Cert.KernelIdeal.Gate.elementAt m c (j c) (i 0) (i 1)),
    Cert.KernelIdeal.Gate.run_value m g j hj (fun c i => Cert.FiniteInputs.finite_x _ _ _ _ _ _ _ _ (hpre c).1 i)
      (fun c i => Cert.FiniteInputs.finite_W1 _ _ _ _ _ _ _ _ (hpre c).2.1 i), ?_⟩
  refine (θ_run _ _ _).mono (fun r h c => ⟨(h c).1.trans ?_, (h c).2⟩) (Cert.ReferenceIdeal.Gate.run m' g')
  obtain ⟨e0, e1, e2, e3, e4, e5, e6, e7⟩ := hargs c
  rw [e0, e1, e2, e3, e4, e5, e6, e7]
  exact result_eq m c (j c) (hj c)

end Cert.Proof

end
-- ==== Proof.lean ====
module

public import proofs.«01_k».proof.Defs
public import proofs.«01_k».proof.Proof.GateBits.Frame
public import proofs.«01_k».proof.Proof.GateIdeal.Frame
public import proofs.«01_k».proof.Proof.Reference.Run
public import proofs.«01_k».proof.Proof.Algebraic

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.FiniteInputs.facts,
  fun m g _ => Cert.Kernel.Gate.quiescent m g,
  fun m g _ => Cert.KernelIdeal.Gate.quiescent m g,
  fun m g _ => Cert.KernelIdeal.Gate.quiescent m g,
  fun m g _ => Cert.ReferenceIdeal.Gate.quiescent m g,
  fun m g _ => Cert.ReferenceIdeal.Gate.quiescent m g,
  trivial,
  algebraic⟩

end Cert.Proof

end
